-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v3) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x2048x1024 : Shape := ⟨3, ![4, 2048, 1024]⟩
abbrev S2048x1024 : Shape := ⟨2, ![2048, 1024]⟩
abbrev S1024x1024 : Shape := ⟨2, ![1024, 1024]⟩
abbrev S_ : Shape := ⟨0, ![]⟩
abbrev S1x1024x1024 : Shape := ⟨3, ![1, 1024, 1024]⟩

abbrev nBuf : Table → Nat
  | .hbm => 3
  | .shared => 1
  | _ => 0

abbrev bufTy : (tb : Table) → Fin (nBuf tb) → BufTy
  | .hbm, ⟨0, _⟩ => ⟨S4x2048x1024, .f32⟩
  | .hbm, ⟨1, _⟩ => ⟨S2048x1024, .f32⟩
  | .hbm, ⟨2, _⟩ => ⟨S4x2048x1024, .f32⟩
  | .shared, ⟨0, _⟩ => ⟨S1024x1024, .f32⟩
  | _, _ => ⟨S4x2048x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scs : Ref sig .scScalar := ⟨.hbm, 1, rfl⟩
abbrev main_v0_scs : Ref sig .scScalar := ⟨.hbm, 2, rfl⟩
abbrev cc0_scratch0 : Ref sig .scScalar := ⟨.shared, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (i : grid0.Coords) : Fin 2 → Nat :=
  let arg0 : BitVec 32 := BitVec.ofNat 32 (i 0).val
  let c1024_i32 : BitVec 32 := 1024#32
  let v0 : BitVec 32 := Scalar.muli arg0 c1024_i32
  let c0_i32 : BitVec 32 := 0#32
  ![v0.toNat, 0]
def k0_off2 (i : grid0.Coords) : Fin 3 → Nat :=
  let c0_i32_1 : BitVec 32 := 0#32
  let arg0 : BitVec 32 := BitVec.ofNat 32 (i 0).val
  let c1024_i32 : BitVec 32 := 1024#32
  let v0 : BitVec 32 := Scalar.muli arg0 c1024_i32
  let c0_i32_2 : BitVec 32 := 0#32
  ![0, v0.toNat, 0]
def k0_off3 (i : grid0.Coords) : Fin 3 → Nat :=
  let c1_i32 : BitVec 32 := 1#32
  let arg0 : BitVec 32 := BitVec.ofNat 32 (i 0).val
  let c1024_i32 : BitVec 32 := 1024#32
  let v0 : BitVec 32 := Scalar.muli arg0 c1024_i32
  let c0_i32_3 : BitVec 32 := 0#32
  ![1, v0.toNat, 0]
def k0_off4 (i : grid0.Coords) : Fin 3 → Nat :=
  let c2_i32 : BitVec 32 := 2#32
  let arg0 : BitVec 32 := BitVec.ofNat 32 (i 0).val
  let c1024_i32 : BitVec 32 := 1024#32
  let v0 : BitVec 32 := Scalar.muli arg0 c1024_i32
  let c0_i32_4 : BitVec 32 := 0#32
  ![2, v0.toNat, 0]
def k0_off5 (i : grid0.Coords) : Fin 3 → Nat :=
  let c3_i32 : BitVec 32 := 3#32
  let arg0 : BitVec 32 := BitVec.ofNat 32 (i 0).val
  let c1024_i32 : BitVec 32 := 1024#32
  let v0 : BitVec 32 := Scalar.muli arg0 c1024_i32
  let c0_i32_5 : BitVec 32 := 0#32
  ![3, v0.toNat, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S4x2048x1024 : Shape := ⟨3, ![4, 2048, 1024]⟩
abbrev S2048x1024 : Shape := ⟨2, ![2048, 1024]⟩
abbrev S2048 : Shape := ⟨1, ![2048]⟩
abbrev S1x2048 : Shape := ⟨2, ![1, 2048]⟩
abbrev S4x2048 : Shape := ⟨2, ![4, 2048]⟩
abbrev S_ : Shape := ⟨0, ![]⟩
abbrev S4x2048x1 : Shape := ⟨3, ![4, 2048, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S2048x1024, .f32⟩
  | .hbm, ⟨2, _⟩ => ⟨S2048, .i32⟩
  | .hbm, ⟨3, _⟩ => ⟨S1x2048, .i32⟩
  | .hbm, ⟨4, _⟩ => ⟨S4x2048, .i32⟩
  | .hbm, ⟨5, _⟩ => ⟨S_, .i32⟩
  | .hbm, ⟨6, _⟩ => ⟨S4x2048, .i32⟩
  | .hbm, ⟨7, _⟩ => ⟨S4x2048, .i1⟩
  | .hbm, ⟨8, _⟩ => ⟨S_, .i32⟩
  | .hbm, ⟨9, _⟩ => ⟨S4x2048, .i32⟩
  | .hbm, ⟨10, _⟩ => ⟨S4x2048, .i32⟩
  | .hbm, ⟨11, _⟩ => ⟨S4x2048, .i32⟩
  | .hbm, ⟨12, _⟩ => ⟨S4x2048x1, .i32⟩
  | .hbm, ⟨13, _⟩ => ⟨S1, .i32⟩
  | .hbm, ⟨14, _⟩ => ⟨S_, .i32⟩
  | .hbm, ⟨15, _⟩ => ⟨S4x2048x1, .i32⟩
  | .hbm, ⟨16, _⟩ => ⟨S4x2048x1, .i1⟩
  | .hbm, ⟨17, _⟩ => ⟨S1x1x1, .i32⟩
  | .hbm, ⟨18, _⟩ => ⟨S4x2048x1, .i32⟩
  | .hbm, ⟨19, _⟩ => ⟨S4x2048x1, .i1⟩
  | .hbm, ⟨20, _⟩ => ⟨S4x2048x1, .i1⟩
  | .hbm, ⟨21, _⟩ => ⟨S_, .i1⟩
  | .hbm, ⟨22, _⟩ => ⟨S4x2048, .i1⟩
  | .hbm, ⟨23, _⟩ => ⟨S4x2048x1024, .f32⟩
  | .hbm, ⟨24, _⟩ => ⟨S4x2048x1024, .i1⟩
  | .hbm, ⟨25, _⟩ => ⟨S_, .f32⟩
  | .hbm, ⟨26, _⟩ => ⟨S4x2048x1024, .f32⟩
  | .hbm, ⟨27, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Setting.lean ====
/-
  The setting of the SparseCore call: the resources its proof is stated over, the arrays it moves, and the piece of each
  that one sequencer holds. Sequencer `c` reads rows `1024 c … 1024 c + 1023` of the table and writes the same rows of each
  of the four batches of the result.
-/
module

public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Batch
public import Idealize.ShloMosaic.Lib.ValueIdx
public import proofs.«01_k».proof.Proof.Gen.KernelIdeal

@[expose] public section

noncomputable section

namespace Cert.Proof.Broadcast

open Cert.KernelIdeal Cert.KernelIdeal.Gen
open Idealize.ShloMosaic
open Idealize.ShloMosaic.SparseCore (S)
open Idealize.ShloMosaic.SparseCore.Cfg (HIx)
open Idealize.ShloMosaic.ValueIdx (ix2)
open Idealize.SL Idealize.SL.RA Idealize.SL.BI
open scoped Idealize.SL.BI
open Idealize.SL.Sem Idealize.ShloMosaic.Rounds

variable {F : FTy → Type}

/-! ## The resources -/

/-- The labels a SparseCore call may name. -/
abbrev ΛP : Labels := Pipeline.Sig Λ₀ (Fin 0) fun p => (pcfgs (F := F) p).Adm
/-- The launch's handshake rounds, and beside them the counters of the transfers. -/
abbrev UH : Type := URounds (GSem nD τ sig) ℕ
abbrev UU : Type := UH × Counters

local notation "𝕄" => MT nD τ sig (HIx 1) (Elt F) ℕ UU ℕ

/-! ## The arrays -/

-- the three arrays as the kernel's body is handed them
local notation "tW" => (Memref.whole Cert.KernelIdeal.main_arg1_scs : Memref Cert.KernelIdeal.sig Kind.scScalar Space.hbm Cert.KernelIdeal.S2048x1024 EltTy.f32)
local notation "oW" => (Memref.whole Cert.KernelIdeal.main_v0_scs : Memref Cert.KernelIdeal.sig Kind.scScalar Space.hbm Cert.KernelIdeal.S4x2048x1024 EltTy.f32)
local notation "shW" => (Memref.whole Cert.KernelIdeal.cc0_scratch0 : Memref Cert.KernelIdeal.sig Kind.scScalar Space.shared Cert.KernelIdeal.S1024x1024 EltTy.f32)

/-- Where the input the kernel does not read, the table and the result lie on device `d`; -/
abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0
/-- and SparseCore `c`'s stage. -/
abbrev shLoc (d : Dev nD) (c : Fin τ.nSC) : Loc nD τ sig := (S d c).loc cc0_scratch0

/-- The grid point of sequencer `c`. -/
def at_ (c : Fin (grid0.bound 0)) : grid0.Coords := fun | 0 => c | ⟨_ + 1, h⟩ => absurd h (Nat.not_lt.2 (Nat.le_add_left _ _))
/-- Sequencer `c`'s thread on device `d`. -/
abbrev thr (d : Dev nD) (c : Fin (grid0.bound 0)) : Thread nD τ := S d (c.castLE hcore0)

/-! ## The four slabs of one sequencer -/

/-- The slab of the result that sequencer `c` writes in batch 0, 1, 2, 3. -/
abbrev slab0 (c : Fin (grid0.bound 0)) : Memref sig .scScalar .hbm S1024x1024 .f32 :=
  ((oW).slice (Rect.unit (s := S4x2048x1024) (k0_off2 (at_ c)) S1x1024x1024.size (k0_off2_inb (at_ c))) (fun _ => rfl)).squeeze S1024x1024 squeezes_S1x1024x1024_S1024x1024
abbrev slab1 (c : Fin (grid0.bound 0)) : Memref sig .scScalar .hbm S1024x1024 .f32 :=
  ((oW).slice (Rect.unit (s := S4x2048x1024) (k0_off3 (at_ c)) S1x1024x1024.size (k0_off3_inb (at_ c))) (fun _ => rfl)).squeeze S1024x1024 squeezes_S1x1024x1024_S1024x1024
abbrev slab2 (c : Fin (grid0.bound 0)) : Memref sig .scScalar .hbm S1024x1024 .f32 :=
  ((oW).slice (Rect.unit (s := S4x2048x1024) (k0_off4 (at_ c)) S1x1024x1024.size (k0_off4_inb (at_ c))) (fun _ => rfl)).squeeze S1024x1024 squeezes_S1x1024x1024_S1024x1024
abbrev slab3 (c : Fin (grid0.bound 0)) : Memref sig .scScalar .hbm S1024x1024 .f32 :=
  ((oW).slice (Rect.unit (s := S4x2048x1024) (k0_off5 (at_ c)) S1x1024x1024.size (k0_off5_inb (at_ c))) (fun _ => rfl)).squeeze S1024x1024 squeezes_S1x1024x1024_S1024x1024
/-- The rows of the table that sequencer `c` reads. -/
abbrev rows (c : Fin (grid0.bound 0)) : Memref sig .scScalar .hbm S1024x1024 .f32 :=
  (tW).slice (Rect.unit (s := S2048x1024) (k0_off1 (at_ c)) S1024x1024.size (k0_off1_inb (at_ c))) (fun _ => rfl)

end Cert.Proof.Broadcast

end
-- ==== Proof.Slab.lean ====
/-
  What one sequencer's copies leave in the result. The array to be written is, at `(b, r, j)`, the table at `(r, j)`; a copy of
  rows `1024 c …` of the table through the stage into a slab of the result leaves that array on the slab; and the eight slabs,
  four batches by two sequencers, are apart and cover the result.
-/
module

public import proofs.«01_k».proof.Proof.Setting
public import Idealize.ShloMosaic.Lib.ValueLayout
public import Idealize.ShloMosaic.Lib.ViewIndex
public import Idealize.ShloMosaic.Lib.Pipeline.ValueKit.Geometry

@[expose] public section

noncomputable section

namespace Cert.Proof.Broadcast

open Cert.KernelIdeal Cert.KernelIdeal.Gen
open Idealize.ShloMosaic
open Idealize.ShloMosaic.ValueIdx (ix2 ix3)

variable {F : FTy → Type}

local notation "tW" => (Memref.whole Cert.KernelIdeal.main_arg1_scs : Memref Cert.KernelIdeal.sig Kind.scScalar Space.hbm Cert.KernelIdeal.S2048x1024 EltTy.f32)
local notation "oW" => (Memref.whole Cert.KernelIdeal.main_v0_scs : Memref Cert.KernelIdeal.sig Kind.scScalar Space.hbm Cert.KernelIdeal.S4x2048x1024 EltTy.f32)
local notation "shW" => (Memref.whole Cert.KernelIdeal.cc0_scratch0 : Memref Cert.KernelIdeal.sig Kind.scScalar Space.shared Cert.KernelIdeal.S1024x1024 EltTy.f32)

/-- The table laid out once per batch: at `(b, r, j)` the table at `(r, j)`. -/
def spread {α : Type} (t : S2048x1024.Idx → α) : S4x2048x1024.Idx → α := fun y => t (ix2 (y 1) (y 2))

/-! ## A slab at any offsets -/

/-- The 1024 × 1024 slab of the result at offsets `off`. -/
abbrev slabAt (off : Fin 3 → ℕ) (inb : ∀ a, off a + S1x1024x1024.size a ≤ S4x2048x1024.size a) : Memref sig .scScalar .hbm S1024x1024 .f32 :=
  ((oW).slice (Rect.unit (s := S4x2048x1024) off S1x1024x1024.size inb) (fun _ => rfl)).squeeze S1024x1024 squeezes_S1x1024x1024_S1024x1024

/-- Its elements: batch `b`, rows `1024 c … 1024 c + 1023`, every column. -/
theorem mem_slabAt {off : Fin 3 → ℕ} {inb} {b c : ℕ} (h : off = ![b, 1024 * c, 0]) (i : S4x2048x1024.Idx) :
    i ∈ (slabAt off inb).view.set ↔ (i 0).val = b ∧ (i 1).val / 1024 = c := by
  subst h
  have h2 : (i 2).val < 1024 := (i 2).isLt
  have e : (slabAt _ inb).view.set = (Rect.unit (s := S4x2048x1024) ![b, 1024 * c, 0] S1x1024x1024.size inb).set := by
    simp only [Memref.view_squeeze, View.set_reshape]; exact View.set_slice_whole _ _
  rw [e, Rect.mem_set_unit]
  constructor
  · intro H
    have H0 : b ≤ (i 0).val ∧ (i 0).val < b + 1 := H 0
    have H1 : 1024 * c ≤ (i 1).val ∧ (i 1).val < 1024 * c + 1024 := H 1
    omega
  · rintro ⟨e0, e1⟩ a
    match a with
    | ⟨0, _⟩ => show b ≤ (i 0).val ∧ (i 0).val < b + 1; omega
    | ⟨1, _⟩ => show 1024 * c ≤ (i 1).val ∧ (i 1).val < 1024 * c + 1024; omega
    | ⟨2, _⟩ => show 0 ≤ (i 2).val ∧ (i 2).val < 0 + 1024; omega

/-- What the slab reads of `spread t` is what the rows of the table read of `t`. -/
theorem read_spread {off : Fin 3 → ℕ} {inb} {b : ℕ} (c : Fin (grid0.bound 0)) (h : off = ![b, 1024 * c.val, 0])
    (t : (tW).view.ty.Contents (Elt F)) :
    (slabAt off inb).view.read (Elt F) (spread t : (oW).view.ty.Contents (Elt F)) = (rows c).view.read (Elt F) t := by
  subst h
  funext y
  obtain ⟨p, q, rfl⟩ : ∃ (p q : Fin 1024), y = ix2 p q := ⟨y 0, y 1, ValueIdx.eq_ix2 y⟩
  have e1 : ∀ a, (((slabAt _ inb).view.emb (ix2 p q) a : Fin _) : ℕ) = (![b, 1024 * c.val, 0] : Fin 3 → ℕ) a + (ix3 (⟨0, Nat.one_pos⟩ : Fin 1) p q a).val := fun a =>
    (congrArg (fun z => ((((View.whole main_v0_scs).slice (Rect.unit _ S1x1024x1024.size inb)).emb z a : Fin _) : ℕ))
      (ValueIdx.reshapeEquiv_ix2_1ab _ p q)).trans (ValueKit.view_emb_slice_whole_unit_val main_v0_scs _ _ inb _ a)
  have e2 : ∀ a, (((rows c).view.emb (ix2 p q) a : Fin _) : ℕ) = (![1024 * c.val, 0] : Fin 2 → ℕ) a + (ix2 p q a).val := fun a =>
    (ValueKit.view_emb_slice_whole_unit_val main_arg1_scs _ _ _ _ a).trans (congrArg (· + _) (congrFun (k0_off1_eq (at_ c)) a))
  show t (ix2 ((slabAt _ inb).view.emb (ix2 p q) 1) ((slabAt _ inb).view.emb (ix2 p q) 2)) = t ((rows c).view.emb (ix2 p q))
  refine congrArg t (funext fun a => Fin.ext ?_)
  match a with
  | ⟨0, _⟩ => exact (e1 1).trans (e2 0).symm
  | ⟨1, _⟩ => exact (e1 2).trans (e2 1).symm

/-- What the copy leaves on the slab, its payload being the rows of the table. -/
theorem landed_eq {off : Fin 3 → ℕ} {inb} {b : ℕ} (c : Fin (grid0.bound 0)) (h : off = ![b, 1024 * c.val, 0])
    (t : (tW).view.ty.Contents (Elt F)) (o : (oW).view.ty.Contents (Elt F)) (w : S1024x1024.Idx → Elt F .f32)
    (hw : w = (rows c).view.read (Elt F) t) (i : (oW).view.ty.Idx) (hi : i ∈ (slabAt off inb).view.set) :
    (slabAt off inb).view.writes (Elt F) o [⟨Rect.whole S1024x1024, w⟩] i = (spread t : (oW).view.ty.Contents (Elt F)) i := by
  obtain ⟨y, rfl⟩ := View.exists_emb_of_mem_set _ hi
  refine View.eq_of_read_eq (v := (slabAt off inb).view) (congrFun ?_ y)
  rw [View.read_writes_whole, read_spread c h, hw]

/-! ## The eight slabs are the result -/

/-- Sequencer `c`'s elements of batch `b`; and all of sequencer `c`'s. -/
def piece (c : Fin 2) (b : Fin 4) : Finset S4x2048x1024.Idx :=
  Finset.univ.filter fun i => (i 0).val = b.val ∧ (i 1).val / 1024 = c.val
def half (c : Fin 2) : Finset S4x2048x1024.Idx := Finset.univ.biUnion (piece c)

theorem mem_piece {c : Fin 2} {b : Fin 4} {i : S4x2048x1024.Idx} : i ∈ piece c b ↔ (i 0).val = b.val ∧ (i 1).val / 1024 = c.val := by
  simp [piece]
theorem mem_half {c : Fin 2} {i : S4x2048x1024.Idx} : i ∈ half c ↔ (i 1).val / 1024 = c.val := by
  have h0 : (i 0).val < 4 := (i 0).isLt
  unfold half
  rw [Finset.mem_biUnion]
  exact ⟨fun ⟨_, _, h⟩ => (mem_piece.1 h).2, fun h => ⟨⟨(i 0).val, h0⟩, Finset.mem_univ _, mem_piece.2 ⟨rfl, h⟩⟩⟩

theorem piece_apart (c : Fin 2) : ∀ b ∈ (Finset.univ : Finset (Fin 4)), ∀ b' ∈ (Finset.univ : Finset (Fin 4)), b ≠ b' → Disjoint (piece c b) (piece c b') :=
  fun _ _ _ _ hb => Finset.disjoint_left.2 fun _ h h' => hb (Fin.ext ((mem_piece.1 h).1.symm.trans (mem_piece.1 h').1))
theorem half_apart : ∀ c ∈ (Finset.univ : Finset (Fin 2)), ∀ c' ∈ (Finset.univ : Finset (Fin 2)), c ≠ c' → Disjoint (half c) (half c') :=
  fun _ _ _ _ hc => Finset.disjoint_left.2 fun _ h h' => hc (Fin.ext ((mem_half.1 h).symm.trans (mem_half.1 h')))
/-- Every element is in some half, and a half's are those of its four pieces. -/
theorem in_half (i : S4x2048x1024.Idx) : ∃ c ∈ (Finset.univ : Finset (Fin 2)), i ∈ half c := by
  have h1 : (i 1).val < 2048 := (i 1).isLt
  exact ⟨⟨(i 1).val / 1024, by omega⟩, Finset.mem_univ _, mem_half.2 rfl⟩
theorem in_piece (c : Fin 2) (i : S4x2048x1024.Idx) : i ∈ half c ↔ ∃ b ∈ (Finset.univ : Finset (Fin 4)), i ∈ piece c b := Finset.mem_biUnion

/-- A slab of sequencer `c` in batch `b` is that piece. -/
theorem slabAt_set {off : Fin 3 → ℕ} {inb} (c : Fin 2) (b : Fin 4) (h : off = ![b.val, 1024 * c.val, 0]) :
    (slabAt off inb).view.set = piece c b :=
  Finset.ext fun i => (mem_slabAt h i).trans mem_piece.symm

theorem slab0_set (c : Fin 2) : (slab0 c).view.set = piece c 0 := slabAt_set c 0 (k0_off2_eq (at_ c))
theorem slab1_set (c : Fin 2) : (slab1 c).view.set = piece c 1 := slabAt_set c 1 (k0_off3_eq (at_ c))
theorem slab2_set (c : Fin 2) : (slab2 c).view.set = piece c 2 := slabAt_set c 2 (k0_off4_eq (at_ c))
theorem slab3_set (c : Fin 2) : (slab3 c).view.set = piece c 3 := slabAt_set c 3 (k0_off5_eq (at_ c))

end Cert.Proof.Broadcast

end
-- ==== Proof.Body.lean ====
/-
  The kernel's body on one sequencer: its rows of the table are copied into the stage and waited for, then copied out of the
  stage into the four slabs, all four copies in flight on one cell before the first of the four waits on it. The slabs are held
  apart, so no two copies write the same element, and each slab ends at the table laid out once per batch.
-/
module

public import proofs.«01_k».proof.Proof.Slab

@[expose] public section

noncomputable section

namespace Cert.Proof.Broadcast

open Cert.KernelIdeal Cert.KernelIdeal.Gen
open Idealize.ShloMosaic
open Idealize.ShloMosaic.SparseCore (S)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "tW" => (Memref.whole Cert.KernelIdeal.main_arg1_scs : Memref Cert.KernelIdeal.sig Kind.scScalar Space.hbm Cert.KernelIdeal.S2048x1024 EltTy.f32)
local notation "oW" => (Memref.whole Cert.KernelIdeal.main_v0_scs : Memref Cert.KernelIdeal.sig Kind.scScalar Space.hbm Cert.KernelIdeal.S4x2048x1024 EltTy.f32)
local notation "shW" => (Memref.whole Cert.KernelIdeal.cc0_scratch0 : Memref Cert.KernelIdeal.sig Kind.scScalar Space.shared Cert.KernelIdeal.S1024x1024 EltTy.f32)

/-- A slab held by its own elements, at `f`. -/
abbrev slabPts (d : Dev nD) (c : Fin (grid0.bound 0)) (M : Memref sig .scScalar .hbm S1024x1024 .f32)
    (f : Buf (Elt F) (M.view.loc (thr d c))) : sProp 𝕄 :=
  M.view.loc (thr d c) ↦[M.view.set]{fullShare} f

/-- A slab the copy has landed in is the slab at the table laid out once per batch. -/
theorem slab_landed (d : Dev nD) (c : Fin (grid0.bound 0)) {off : Fin 3 → ℕ} {inb} {b : ℕ} (h : off = ![b, 1024 * c.val, 0])
    (t : Buf (Elt F) ((tW).view.loc (thr d c))) (o : Buf (Elt F) ((oW).view.loc (thr d c))) (w : S1024x1024.Idx → Elt F .f32)
    (hw : w = (rows c).view.read (Elt F) t) :
    slabPts d c (slabAt off inb) ((slabAt off inb).view.writes (Elt F) o [⟨Rect.whole S1024x1024, w⟩])
      ⊢ slabPts d c (slabAt off inb) (spread t) :=
  Entails.of_eq (pointsTo_congr fun i hi => landed_eq c h t o w hw i hi)

/-- The body on sequencer `c`: from a share of the table, the stage, the four slabs, the two transfer cells at zero and what the
    sequencer owes, to the same with the four slabs at the table laid out once per batch. The four copies out of the stage fly
    together on one cell, each reading the stage by a share of it; the fourth wait brings the shares back. -/
theorem body_run [∀ e, Nonempty (Elt F e)] (d : Dev nD) (c : Fin (grid0.bound 0)) (q : PosShare TreeShare)
    (O : CellTallies nD τ sig (HIx 1)) (W : Waits sig (HIx 1))
    (t : Buf (Elt F) ((tW).view.loc (thr d c))) (s : Buf (Elt F) ((shW).view.loc (thr d c)))
    (o : Buf (Elt F) ((oW).view.loc (thr d c)))
    (_plan : Transfers.BatchOf (thr d c) (SemLoc.dma (sig := sig) (1 : DmaSem sig)) 4 (windows := true)) :
    (iprop(Transfers.MayWaits (thr d c) (none : HIx 1) O
        ∗ ((tW).view.loc (thr d c) ↦{q} t)
        ∗ ((shW).view.loc (thr d c) ↦{fullShare} s)
        ∗ (slabPts d c (slab0 c) o ∗ slabPts d c (slab1 c) o ∗ slabPts d c (slab2 c) o ∗ slabPts d c (slab3 c) o)
        ∗ (semVal (thr d c, SemLoc.dma (0 : DmaSem sig)) 0 ∗ semVal (thr d c, SemLoc.dma (1 : DmaSem sig)) 0)
        ∗ owes (thr d c) O W) : sProp 𝕄)
      ⊢ wp frame (wpE (defs₀ (F := F)) Variants.none (thr d c) none) Set.univ
          (cc0__pe_broadcast_body (at_ c) tW (Memref.isWhole_whole _) oW (Memref.isWhole_whole _)
            shW (Memref.isWhole_whole _) cc0_scratch1 cc0_scratch2)
          fun _ => iprop(((tW).view.loc (thr d c) ↦{q} t)
            ∗ (∃ s', (shW).view.loc (thr d c) ↦{fullShare} s')
            ∗ (slabPts d c (slab0 c) (spread t) ∗ slabPts d c (slab1 c) (spread t) ∗ slabPts d c (slab2 c) (spread t) ∗ slabPts d c (slab3 c) (spread t))
            ∗ (semVal (thr d c, SemLoc.dma (0 : DmaSem sig)) 0 ∗ semVal (thr d c, SemLoc.dma (1 : DmaSem sig)) 0)
            ∗ ∃ W', owes (thr d c) O W') := by
  iintro ⟨#Hmw, Ht, Hs, ⟨H0, H1, H2, H3⟩, ⟨Hg, Hw⟩, HO⟩
  sl_unfold [cc0__pe_broadcast_body]
  sl_exec
  sl_step
  -- what the stage holds, which each copy out of it carries, is the rows of the table
  have hw : body_run.sl.dma1 d c t s = (rows c).view.read (Elt F) t := View.read_write_univ (v := (shW).view) s _
  ihave H0 := (slab_landed d c (inb := k0_off2_inb (at_ c)) (k0_off2_eq (at_ c)) t o _ hw) $$ H0
  ihave H1 := (slab_landed d c (inb := k0_off3_inb (at_ c)) (k0_off3_eq (at_ c)) t o _ hw) $$ H1
  ihave H2 := (slab_landed d c (inb := k0_off4_inb (at_ c)) (k0_off4_eq (at_ c)) t o _ hw) $$ H2
  ihave H3 := (slab_landed d c (inb := k0_off5_inb (at_ c)) (k0_off5_eq (at_ c)) t o _ hw) $$ H3
  isplitl [Ht]; · iexact Ht
  isplitl [Hs]; · iexists _; iexact Hs
  isplitl [H0 H1 H2 H3]
  · isplitl [H0]; · iexact H0
    isplitl [H1]; · iexact H1
    isplitl [H2]; · iexact H2
    iexact H3
  isplitl [Hg Hw]
  · isplitl [Hg]; · iexact Hg
    iexact Hw
  iexists _; iexact HO

end Cert.Proof.Broadcast

end
-- ==== Proof.Launch.lean ====
/-
  The program's run. The TensorCore's one call deals each of the two sequencers a share of the table, for reading, and its own
  half of the result; a sequencer runs the body on them and its own stage, and gives the half back at the table laid out once
  per batch; the two halves are the result. Every execution ends, the two inputs unchanged, the result that array, every
  semaphore counter at zero.
-/
module

public import proofs.«01_k».proof.Proof.Body

@[expose] public section

noncomputable section

namespace Cert.Proof.Broadcast

open Cert.KernelIdeal Cert.KernelIdeal.Gen
open Idealize.ShloMosaic
open Idealize.ShloMosaic.SparseCore (S)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tW" => (Memref.whole Cert.KernelIdeal.main_arg1_scs : Memref Cert.KernelIdeal.sig Kind.scScalar Space.hbm Cert.KernelIdeal.S2048x1024 EltTy.f32)
local notation "oW" => (Memref.whole Cert.KernelIdeal.main_v0_scs : Memref Cert.KernelIdeal.sig Kind.scScalar Space.hbm Cert.KernelIdeal.S4x2048x1024 EltTy.f32)
local notation "shW" => (Memref.whole Cert.KernelIdeal.cc0_scratch0 : Memref Cert.KernelIdeal.sig Kind.scScalar Space.shared Cert.KernelIdeal.S1024x1024 EltTy.f32)

/-! ## The program as the launch theorem sees it -/

abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

variable (m : (ℓ : Loc nD τ sig) → Buf (Elt F) ℓ) (ρ : Dev nD → PrngReg)

/-! ## What the call hands the sequencers -/

/-- Device `d`'s result as the run leaves it. -/
abbrev done (d : Dev nD) : Buf (Elt F) (oLoc d) := spread (m (tLoc d))

/-- Sequencer `c`'s share of the table, and its half of the result at `f`. -/
abbrev lot (d : Dev nD) (c : Fin 2) (f : Buf (Elt F) (oLoc d)) : sProp 𝕄 :=
  iprop((tLoc d ↦{Transfers.shareTok fullShare 2 c} m (tLoc d)) ∗ oLoc d ↦[half c]{fullShare} f)

/-- The call's payloads: each sequencer's lot, the result's half at its launch contents going and written coming back. -/
def P : (K (F := F)).Pay (nD := nD) (Val := Elt F) (Name := ℕ) (U := UU) where
  st := fun q d c => match q, c with | 0, c => lot m d c (m (oLoc d))
  dn := fun q d c => match q, c with | 0, c => lot m d c (done m d)
  go := fun _ _ _ _ => iprop(emp)
  td := fun _ _ _ _ => iprop(emp)
  x := fun _ _ => iprop(emp)

instance P_storable : (P (F := F) m).IsStorable where
  st q d c := match q, c with
    | 0, c => (inferInstance : BI.Storable (upEmb : UEmb _ 𝕄) (lot m d c (m (oLoc d))))
  dn q d c := match q, c with
    | 0, c => (inferInstance : BI.Storable (upEmb : UEmb _ 𝕄) (lot m d c (done m d)))
  go _ _ _ _ := (inferInstance : BI.Storable (upEmb : UEmb _ 𝕄) (iprop(emp) : sProp 𝕄))
  td _ _ _ _ := (inferInstance : BI.Storable (upEmb : UEmb _ 𝕄) (iprop(emp) : sProp 𝕄))

/-! ## One sequencer -/

section Sequencer

variable (d : Dev nD)

/-- The two transfer cells, as a family. -/
abbrev dcell (c : Fin τ.nSC) (k : Fin 2) : GSem nD τ sig := (S d c, .dma ⟨k.val, k.isLt⟩)

theorem dcell_mem (c : Fin τ.nSC) (k : Fin 2) : dcell d c k ∈ ownCells (S d c) :=
  mem_ownCells.mpr ⟨rfl, (show ∀ s : DmaSem sig, (SemLoc.dma s : SemLoc sig).isScoped .scScalar = true by decide) _⟩

/-- The sequencer's own cells at zero: the two the body names, and the rest. -/
theorem ownSems0_S (c : Fin τ.nSC) :
    (ownSems0 (S d c) : sProp 𝕄)
      = iprop((semVal (S d c, SemLoc.dma (0 : DmaSem sig)) 0 ∗ semVal (S d c, SemLoc.dma (1 : DmaSem sig)) 0)
          ∗ bigSep ((ownCells (S d c)) \ Finset.univ.image (dcell d c)) fun g => semVal g 0) := by
  unfold SparseCore.Cfg.ownSems0
  rw [SparseCore.bigSep_sdiff_split' (t := Finset.univ.image (dcell d c)) (Finset.image_subset_iff.mpr fun k _ => dcell_mem d c k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 2)) = {0, 1} by decide, SparseCore.bigSep_insert' (by decide), bigSep_singleton]

/-- The stage is among the sequencer's own buffers: it is it, at some contents, and the rest. -/
theorem ownBufs_S (c : Fin τ.nSC) :
    (ownBufs (S d c) : sProp 𝕄)
      = iprop((∃ f, shLoc d c ↦{fullShare} f)
          ∗ bigSep ((ownRefs (τ := τ) (.scScalar c)).erase ((Proc.scScalar c).devRef cc0_scratch0)) fun b => iprop(∃ f, ((d, b) : Loc nD τ sig) ↦{fullShare} f)) := by
  unfold SparseCore.Cfg.ownBufs
  exact SparseCore.bigSep_erase' ((mem_ownRefs (p := Proc.scScalar c) (b := (Proc.scScalar c).devRef cc0_scratch0)).mpr rfl)

/-- The table and the stage as the body addresses them. -/
theorem pts_t (c : Fin (grid0.bound 0)) (q : PosShare TreeShare) (f : Buf (Elt F) (tLoc d)) :
    ((tW).view.loc (thr d c) ↦{q} f : sProp 𝕄) = tLoc d ↦{q} f := rfl
theorem pts_sh (c : Fin (grid0.bound 0)) (f : Buf (Elt F) (shLoc d (c.castLE hcore0))) :
    ((shW).view.loc (thr d c) ↦{fullShare} f : sProp 𝕄) = shLoc d (c.castLE hcore0) ↦{fullShare} f := rfl

/-- A sequencer's half of the result is its four slabs. -/
theorem half_slabs (c : Fin 2) (f : Buf (Elt F) (oLoc d)) :
    (oLoc d ↦[half c]{fullShare} f : sProp 𝕄)
      = iprop(slabPts d c (slab0 c) f ∗ slabPts d c (slab1 c) f ∗ slabPts d c (slab2 c) f ∗ slabPts d c (slab3 c) f) := by
  have h : (oLoc d ↦[half c]{fullShare} f : sProp 𝕄) = bigSep Finset.univ fun b : Fin 4 => oLoc d ↦[piece c b]{fullShare} f := by
    refine Eq.trans ?_ (pointsTo_biUnion (ℓ := oLoc d) (q := fullShare) (f := f) Finset.univ (piece c) (piece_apart c))
    exact congrArg (fun I => (oLoc d ↦[I]{fullShare} f : sProp 𝕄)) (Finset.ext fun i => (in_piece c i).trans Finset.mem_biUnion.symm)
  refine h.trans ?_
  rw [show (Finset.univ : Finset (Fin 4)) = {0, 1, 2, 3} by decide,
    SparseCore.bigSep_insert' (by decide), SparseCore.bigSep_insert' (by decide), SparseCore.bigSep_insert' (by decide), bigSep_singleton,
    ← slab0_set, ← slab1_set, ← slab2_set, ← slab3_set]

variable [FloatOps F]

/-- The kernel on a sequencer: its scoped buffers opened at the stage and its scoped cells at the two, its half of the result
    cut into the four slabs, the body run, and all of it put together again. -/
theorem seq_run [∀ e, Nonempty (Elt F e)] (hF : (K (F := F)).Facts) (c : Fin 2) (O : CellTallies nD τ sig (HIx 1)) (W : Waits sig (HIx 1)) (hO : ∀ g, O g none = 0) :
    iprop(levAts (K (F := F)).L (K (F := F)).lev ∗ emp ∗ lot m d c (m (oLoc d))
        ∗ scopedBufs (thr d c) ∗ scopedSems0 (thr d c) ∗ owes (thr d c) O W)
      ⊢ wp frame (wpE (defs₀ (F := F)) 𝒱₀ (thr d c) none) Set.univ
          (cc0__pe_broadcast_body (at_ c) tW (Memref.isWhole_whole _) oW (Memref.isWhole_whole _)
            shW (Memref.isWhole_whole _) cc0_scratch1 cc0_scratch2)
          fun _ => iprop(lot m d c (done m d) ∗ scopedBufs (thr d c) ∗ scopedSems0 (thr d c)
            ∗ ∃ W', ⌜∀ p ∈ W', p ∈ W ∨ p.2 = none ∨ p.2 = some (0 : Fin 1)⌝ ∗ owes (thr d c) O W') := by
  rw [(K (F := F)).scopedBufs_S hF d _, SparseCore.Cfg.scopedSems0_S (Val := Elt F) d _, ownSems0_S, ownBufs_S]
  unfold lot
  rw [half_slabs, half_slabs]
  iintro ⟨#Hlv, -, ⟨Ht, Ho⟩, ⟨⟨⟨%fs, Hsh⟩, Hbufs⟩, Htiles⟩, ⟨⟨HC, Hsems⟩, HtileSems⟩, HO⟩
  ihave Hmw := ((K (F := F)).mayWaits_none (thr := thr d c) hO) $$ Hlv
  ihave Ht' := (Entails.of_eq (pts_t (F := F) d c _ _).symm) $$ Ht
  ihave Hsh' := (Entails.of_eq (pts_sh (F := F) d c _).symm) $$ Hsh
  iapply (wp_wand_r Idealize.ShloMosaic.frame (wpE (defs₀ (F := F)) 𝒱₀ (thr d c) none) Set.univ)
  isplitl [Ht' Ho Hsh' HC HO]
  · iapply (body_run d c (Transfers.shareTok fullShare 2 c) O W (m (tLoc d)) fs (m (oLoc d)) trivial)
    isplitr; · iexact Hmw
    isplitl [Ht']; · iexact Ht'
    isplitl [Hsh']; · iexact Hsh'
    isplitl [Ho]; · iexact Ho
    isplitl [HC]; · iexact HC
    iexact HO
  iintro %_ ⟨Ht', ⟨%f2, Hsh'⟩, Ho, HC, %W', HO⟩
  isplitl [Ht' Ho]
  · isplitl [Ht']; · iapply (Entails.of_eq (pts_t (F := F) d c _ _)); iexact Ht'
    iexact Ho
  isplitl [Hsh' Hbufs Htiles]
  · isplitl [Hsh' Hbufs]
    · isplitl [Hsh']; · iexists _; iapply (Entails.of_eq (pts_sh (F := F) d c _)); iexact Hsh'
      iexact Hbufs
    iexact Htiles
  isplitl [HC Hsems HtileSems]
  · isplitl [HC Hsems]
    · isplitl [HC]; · iexact HC
      iexact Hsems
    iexact HtileSems
  iexists W'; isplitr
  · ipureintro; intro p _
    rcases p.2 with _ | q
    · exact .inr (.inl rfl)
    · exact .inr (.inr (congrArg some (Subsingleton.elim q 0)))
  · iexact HO

end Sequencer

/-! ## The launch theorem's obligation -/

variable [FloatOps F]

theorem defs₀_scalar (c : Fin τ.nSC) :
    defs₀ (F := F) (.scScalar c) 0 ()
      = SparseCore.onCore hcore0 (fun c => cc0__pe_broadcast_body (at_ c) tW (Memref.isWhole_whole _) oW (Memref.isWhole_whole _)
          shW (Memref.isWhole_whole _) cc0_scratch1 cc0_scratch2) ⟨⟩ c := rfl

theorem scalarObl [∀ e, Nonempty (Elt F e)] : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact seq_run m d facts c O W hO

/-! ## The launch element -/

theorem bigSep_nothing {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## The TensorCore's program -/

theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- The result is the two sequencers' halves. -/
theorem out_halves (d : Dev nD) (f : Buf (Elt F) (oLoc d)) :
    (oLoc d ↦{fullShare} f : sProp 𝕄) = bigSep Finset.univ fun c : Fin 2 => oLoc d ↦[half c]{fullShare} f := by
  refine Eq.trans ?_ (pointsTo_biUnion (ℓ := oLoc d) (q := fullShare) (f := f) Finset.univ half half_apart)
  exact congrArg (fun I => (oLoc d ↦[I]{fullShare} f : sProp 𝕄)) (Finset.eq_univ_iff_forall.2 fun i => Finset.mem_biUnion.2 (in_half i)).symm

/-- The call's lots are the shares of the table and the halves of the result. -/
theorem lots_eq (d : Dev nD) (f : Buf (Elt F) (oLoc d)) :
    (bigSep Finset.univ fun c : Fin 2 => lot m d c f)
      = iprop((bigSep Finset.univ fun c : Fin 2 => tLoc d ↦{Transfers.shareTok fullShare 2 c} m (tLoc d)) ∗ oLoc d ↦{fullShare} f) := by
  rw [out_halves]; exact bigSep_sep' _ _ _

theorem st0_eq (d : Dev nD) : (bigSep Finset.univ fun c : Fin ((K (F := F)).nCore 0) => (P m).st 0 d c) = bigSep Finset.univ fun c : Fin 2 => lot m d c (m (oLoc d)) := rfl
theorem dn0_eq (d : Dev nD) : (bigSep Finset.univ fun c : Fin ((K (F := F)).nCore 0) => (P m).dn 0 d c) = bigSep Finset.univ fun c : Fin 2 => lot m d c (done m d) := rfl

/-- What the program leaves the claim: the two inputs at their launch contents, and the result. -/
abbrev FIN (d : Dev nD) : sProp 𝕄 :=
  iprop((xLoc d ↦{fullShare} m (xLoc d)) ∗ (tLoc d ↦{fullShare} m (tLoc d)) ∗ oLoc d ↦{fullShare} done m d)

/-- The TensorCore's program: the table's shares are dealt, what is left of it kept; the call; the shares joined again. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ht, Ho⟩, Hts, -⟩, -⟩
  ihave Ht := (Transfers.pointsTo_toks_split fullShare 2) $$ Ht
  icases Ht with ⟨Hrest, Ht⟩
  iapply ((K (F := F)).wp_run (D (F := F)) 𝒱 (EH := EH) (P := P m) κ d 0) $$ [Hst Hx Ht Hrest Ho Hb Hts]
  isplitr; · iexact Hctx
  isplitl [Hst]; · iexact Hst
  isplitl [Ht Ho]
  · rw [st0_eq, lots_eq]
    isplitl [Ht]; · iexact Ht
    iexact Ho
  iintro ⟨Hst, Hdn⟩
  ihave Hdn := (Entails.of_eq ((dn0_eq m d).trans (lots_eq m d _))) $$ Hdn
  icases Hdn with ⟨Ht, Ho⟩
  ihave Ht := (Transfers.pointsTo_toks_join fullShare 2) $$ [Hrest Ht]
  · isplitl [Hrest]; · iexact Hrest
    iexact Ht
  imodintro
  isplitl [Hst]; · iexact Hst
  isplitl [Hx Ht Ho]
  · isplitl [Hx]; · iexact Hx
    isplitl [Ht]; · iexact Ht
    iexact Ho
  isplitl [Hb] <;> iassumption

/-- What a finished memory is held to, device by device. -/
def fq (d : Dev nD) (s' : Phys nD τ sig (Elt F)) : Prop :=
  s'.mem.mem (oLoc d) = done m d ∧ s'.mem.mem (xLoc d) = m (xLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hx, Ht, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%ht, HSI, -⟩
  ihave H := (SI_pointsTo_agree (st := s') (ℓ := oLoc d) (I := Finset.univ) (q := fullShare) (f := done m d)) $$ [HSI Ho]
  · isplitl [HSI] <;> iassumption
  icases H with %ho
  ipureintro
  exact ⟨funext fun i => ho i (Finset.mem_univ i), funext fun i => hx i (Finset.mem_univ i), funext fun i => ht i (Finset.mem_univ i)⟩

/-! ## The run -/

/-- The result is the table laid out once per batch, the inputs are unchanged, every counter is at zero. -/
def QC : PUnit × MemSt nD τ sig (Elt F) → Prop := fun r =>
  (∀ c : Dev nD, r.2.mem (oLoc c) = done m c ∧ r.2.mem (xLoc c) = m (xLoc c) ∧ r.2.mem (tLoc c) = m (tLoc c)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Broadcast

end
-- ==== Proof.RefValue.lean ====
/-
  What the reference computes. It takes from the table the rows numbered 0, 1, …, 2047, once per batch, with the index
  arithmetic of `jnp.take`: a negative number is counted from the end, a number out of range gives a NaN. The numbers are the
  rows' own, so neither happens, and the result at `(b, r, j)` is the table at `(r, j)`.
-/
module

public import Idealize.ShloMosaic.Lib.ValueIdx
public import Idealize.ShloMosaic.Lib.ReduceAll
public import Idealize.ShloMosaic.Lib.WordCmp
public import Idealize.ShloMosaic.Lib.Pipeline.Value
public import proofs.«01_k».proof.Proof.Gen.ReferenceIdeal

@[expose] public section

noncomputable section

namespace Cert.Proof.RefValue

open Cert.ReferenceIdeal Cert.ReferenceIdeal.Gen
open Idealize.ShloMosaic Idealize.ShloMosaic.ValueIdx

/-! ## The row numbers -/

/-- Every batch's row numbers, `0 … 2047`, as the program lays them out. -/
abbrev count : IVec S4x2048 32 :=
  broadcastInDim S4x2048 ![0, 1] bcast_S1x2048_S4x2048_0_1 (broadcastInDim S1x2048 ![1] bcast_S2048_S1x2048_1 (iotaInDim S2048 32 0))
/-- The row numbers with the negative ones counted from the end, with a trailing axis of one for the gather. -/
abbrev start : IVec S4x2048x1 32 :=
  broadcastInDim S4x2048x1 ![0, 1] bcast_S4x2048_S4x2048x1_0_1
    (select (cmpi .slt count (broadcastInDim S4x2048 ![] bcast_S_S4x2048 (constantI S_ 32 0#32)))
      (addi count (broadcastInDim S4x2048 ![] bcast_S_S4x2048 (constantI S_ 32 2048#32))) count)
/-- Which row numbers are in range. -/
abbrev inRange : IVec S4x2048x1 1 :=
  andi (cmpi .sge start (broadcastInDim S4x2048x1 ![] bcast_S_S4x2048x1 (constantI S_ 32 0#32)))
    (cmpi .sle start (broadcastInDim S4x2048x1 ![0, 1, 2] bcast_S1x1x1_S4x2048x1_0_1_2 (broadcastInDim S1x1x1 ![2] bcast_S1_S1x1x1_2 (constantI S1 32 2047#32))))

/-- A number below 2048 as a word reads back as itself, signed. -/
theorem toInt_word {n : ℕ} (h : n < 2048) : (BitVec.ofNat 32 n).toInt = (n : ℤ) :=
  WordCmp.toInt_ofNat_of_lt (show n < 2 ^ 31 by omega)

/-- Column `r` of any batch counts `r`. -/
theorem count_apply (i : S4x2048.Idx) : count i = BitVec.ofNat 32 (i 1).val := by
  refine (broadcastInDim_apply _ _ _ i (ix2 (0 : Fin 1) (i 1)) fun a => ?_).trans
    ((broadcastInDim_apply _ _ _ _ (ix1 (i 1)) fun a => ?_).trans rfl)
  · match a with
    | ⟨0, _⟩ => rfl
    | ⟨1, _⟩ => rfl
  · match a with
    | ⟨0, _⟩ => rfl

/-- No row number is negative, so the numbers stand as they are. -/
theorem start_apply (i : S4x2048x1.Idx) : start i = BitVec.ofNat 32 (i 1).val := by
  have hi : (i 1).val < 2048 := (i 1).isLt
  refine (broadcastInDim_apply _ _ _ i (ix2 (i 0) (i 1)) fun a => ?_).trans ?_
  · match a with
    | ⟨0, _⟩ => rfl
    | ⟨1, _⟩ => rfl
  · have hc : count (ix2 (i 0) (i 1)) = BitVec.ofNat 32 (i 1).val := count_apply _
    show Scalar.select (IntOp.cmpi .slt (count (ix2 (i 0) (i 1))) 0#32) _ (count (ix2 (i 0) (i 1))) = _
    rw [hc, show IntOp.cmpi .slt (BitVec.ofNat 32 (i 1).val) 0#32 = 0#1 from ?_, select_zero]
    show BitVec.ofBool (decide ((BitVec.ofNat 32 (i 1).val).toInt < (0#32).toInt)) = 0#1
    rw [toInt_word hi, decide_eq_false (by show ¬ ((i 1).val : ℤ) < 0; omega)]
    rfl

/-- Every row number is in range. -/
theorem inRange_apply (i : S4x2048x1.Idx) : inRange i = 1#1 := by
  have hi : (i 1).val < 2048 := (i 1).isLt
  show IntOp.andi (IntOp.cmpi .sge (start i) 0#32) (IntOp.cmpi .sle (start i) 2047#32) = 1#1
  rw [start_apply, show IntOp.cmpi .sge (BitVec.ofNat 32 (i 1).val) 0#32 = 1#1 from ?_,
    show IntOp.cmpi .sle (BitVec.ofNat 32 (i 1).val) 2047#32 = 1#1 from ?_]
  · rfl
  · show BitVec.ofBool (decide ((BitVec.ofNat 32 (i 1).val).toInt ≤ (2047#32).toInt)) = 1#1
    rw [toInt_word hi, decide_eq_true (by show ((i 1).val : ℤ) ≤ 2047; omega)]
    rfl
  · show BitVec.ofBool (decide ((0#32).toInt ≤ (BitVec.ofNat 32 (i 1).val).toInt)) = 1#1
    rw [toInt_word hi, decide_eq_true (by show (0 : ℤ) ≤ _; omega)]
    rfl

/-! ## The rows taken -/

local notation "gd" => Cert.ReferenceIdeal.gather_S2048x1024_S4x2048x1_S4x2048x1024_2_0_n_n_0_2_11024

/-- Element `(b, r, j)` of the rows taken is the table at `(r, j)`: its row is the number at `(b, r)`, which is `r`. -/
theorem taken_apply {α : Type} (x : S2048x1024.Idx → α) (y : S4x2048x1024.Idx) :
    Host.gather gd x start y = x (ix2 (y 1) (y 2)) := by
  have hr : (y 1).val < 2048 := (y 1).isLt
  unfold Host.gather
  refine congrArg x (funext fun a => Fin.ext ?_)
  show (gd).start y start a + (gd).batchCoord y a + (gd).offCoord y a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (gd).startIndexMap from List.mem_singleton.mpr rfl), start_apply]
    have hsi : ((gd).siIdx y ⟨List.idxOf (0 : Fin 2) (gd).startIndexMap,
        List.idxOf_lt_length_iff.2 (List.mem_singleton.mpr rfl)⟩ 1).val = (y 1).val := rfl
    show min (BitVec.ofNat 32 _).toInt.toNat 2047 + 0 + 0 = (y 1).val
    rw [hsi, toInt_word hr]
    omega
  · rw [GatherDims.start, dif_neg (show (1 : Fin 2) ∉ (gd).startIndexMap by decide)]
    show 0 + 0 + _ = (y 2).val
    unfold GatherDims.offCoord
    rw [dif_pos (show (1 : Fin 2) ∈ (gd).sKept by decide)]
    exact Nat.zero_add _

/-- THE REFERENCE'S RESULT: at `(b, r, j)` the table at `(r, j)`, whatever stands for a NaN. -/
theorem result_eq {α : Type} (x : S2048x1024.Idx → α) (nan : S4x2048x1024.Idx → α) :
    select (broadcastInDim S4x2048x1024 ![0, 1] bcast_S4x2048_S4x2048x1024_0_1
        (Host.reduce IntOp.andi inRange (constantI S_ 1 1#1) reducesTo_S4x2048x1_S4x2048_d2 h_S_))
      (Host.gather gd x start) nan
      = fun y => x (ix2 (y 1) (y 2)) := by
  funext y
  rw [select_apply, taken_apply]
  have hm : broadcastInDim S4x2048x1024 ![0, 1] bcast_S4x2048_S4x2048x1024_0_1
      (Host.reduce IntOp.andi inRange (constantI S_ 1 1#1) reducesTo_S4x2048x1_S4x2048_d2 h_S_) y = 1#1 := by
    refine (broadcastInDim_apply _ _ _ y (ix2 (y 0) (y 1)) fun a => ?_).trans
      (Host.reduce_andi_one _ _ _ _ _ rfl inRange_apply)
    match a with
    | ⟨0, _⟩ => rfl
    | ⟨1, _⟩ => rfl
  rw [hm, select_one]

end Cert.Proof.RefValue

end
-- ==== Proof.lean ====
/-
  The certificate. The kernel's run is read once, for any float values (`Broadcast.run_main`): each frame is it with the value
  dropped, and the two value claims are its `Ideal` and its `Bits` instance beside the reference's run, whose composed term is
  the same array (`RefValue.result_eq`): at `(b, r, j)`, the table at `(r, j)`.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference.Run
public import proofs.«01_k».proof.Proof.Gen.Reference
public import proofs.«01_k».proof.Proof.Launch
public import proofs.«01_k».proof.Proof.RefValue
public import Idealize.ShloMosaic.Adequacy
public import Idealize.ShloMosaic.Init

@[expose] public section

noncomputable section

namespace Cert.Proof

open Idealize.ShloMosaic Idealize.SL.Sem Cert.Kernel

theorem frame_k : Cert.quiescent_Kernel := fun m ρ _ =>
  (θ_run Cert.KernelIdeal.defs _ _).mono (fun _ h => ⟨fun c => (h.1 c).2, h.2⟩) (Broadcast.run_main (F := Bits) m ρ)

theorem frame_ki : Cert.quiescent_KernelIdeal := fun m ρ _ =>
  (θ_run Cert.KernelIdeal.defs _ _).mono (fun _ h => ⟨fun c => (h.1 c).2, h.2⟩) (Broadcast.run_main (F := Ideal) m ρ)

-- the references run on the TensorCore alone and have no semaphores
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_r : Cert.quiescent_Reference := fun m ρ _ =>
  (θ_run Cert.Reference.defs _ _).mono (fun r h => ⟨fun c => (h c).2, sem_eq_zero_of_no_sems (by decide) r.2⟩)
    (Cert.Reference.Value.run (F := Bits) m ρ)

theorem algebraic : Cert.algebraic_KernelIdeal_ReferenceIdeal := fun m g m' g' _ hagree =>
  ⟨fun c => Broadcast.done m c,
    (θ_run Cert.KernelIdeal.defs _ _).mono (fun _ h c => h.1 c) (Broadcast.run_main (F := Ideal) m g),
    (θ_run Cert.ReferenceIdeal.defs _ _).mono
      (fun _ h c => ⟨((h c).1.trans (RefValue.result_eq _ _)).trans (congrArg Broadcast.spread (hagree c).2), (h c).2⟩)
      (Cert.ReferenceIdeal.Value.run (F := Ideal) m' g')⟩

theorem bitexact : Cert.bitexact_Kernel_Reference := fun m g m' g' _ hagree =>
  ⟨fun c => Broadcast.done m c,
    (θ_run Cert.KernelIdeal.defs _ _).mono (fun _ h c => h.1 c) (Broadcast.run_main (F := Bits) m g),
    (θ_run Cert.Reference.defs _ _).mono
      (fun _ h c => ⟨((h c).1.trans (RefValue.result_eq _ _)).trans (congrArg Broadcast.spread (hagree c).2), (h c).2⟩)
      (Cert.Reference.Value.run (F := Bits) m' g')⟩

theorem claim : Cert.Claim :=
  ⟨Cert.Kernel.Gen.facts, Cert.KernelIdeal.Gen.facts, Cert.ReferenceIdeal.Gen.facts, Cert.Reference.Gen.facts,
    frame_k, frame_ki, frame_ri, frame_r, trivial, algebraic, bitexact⟩

end Cert.Proof

end
